-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S16384x512 : Shape := ⟨2, ![16384, 512]⟩
abbrev S512x128 : Shape := ⟨2, ![512, 128]⟩
abbrev S128 : Shape := ⟨1, ![128]⟩
abbrev S128x512 : Shape := ⟨2, ![128, 512]⟩
abbrev S512 : Shape := ⟨1, ![512]⟩
abbrev S_ : Shape := ⟨0, ![]⟩

class Facts : Prop where
  bcast_S_S16384x512 : S_.BroadcastsInDim S16384x512 (![] : Fin 0 → Fin S16384x512.rank)
  bcast_S_S512x128 : S_.BroadcastsInDim S512x128 (![] : Fin 0 → Fin S512x128.rank)
  bcast_S_S128x512 : S_.BroadcastsInDim S128x512 (![] : Fin 0 → Fin S128x512.rank)

variable [Facts]

def fn {F : FTy → Type} [FloatOps F] (main_arg0 : FVec F S16384x512 .f32) (main_arg1 : FVec F S512x128 .f32) (main_arg2 : FVec F S128 .f32) (main_arg3 : FVec F S128x512 .f32) (main_arg4 : FVec F S512 .f32) : IVec S16384x512 1 × IVec S512x128 1 × IVec S128x512 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_v3 : FVec F S512x128 .f32 := Host.absf main_arg1
  let main_cst_0 : FVec F S_ .f32 := constant S_ .f32 0x7F800000#32
  let main_v4 : FVec F S512x128 .f32 := broadcastInDim S512x128 ![] bcast_S_S512x128 main_cst_0
  let main_v5 : IVec S512x128 1 := cmpf .olt main_v3 main_v4
  let main_v6 : FVec F S128x512 .f32 := Host.absf main_arg3
  let main_cst_1 : FVec F S_ .f32 := constant S_ .f32 0x7F800000#32
  let main_v7 : FVec F S128x512 .f32 := broadcastInDim S128x512 ![] bcast_S_S128x512 main_cst_1
  let main_v8 : IVec S128x512 1 := cmpf .olt main_v6 main_v7
  (main_v2, main_v5, main_v8)
-- ==== Kernel.lean ====
abbrev S16384x512 : Shape := ⟨2, ![16384, 512]⟩
abbrev S512x128 : Shape := ⟨2, ![512, 128]⟩
abbrev S128 : Shape := ⟨1, ![128]⟩
abbrev S128x512 : Shape := ⟨2, ![128, 512]⟩
abbrev S512 : Shape := ⟨1, ![512]⟩
abbrev S1x128 : Shape := ⟨2, ![1, 128]⟩
abbrev S1x512 : Shape := ⟨2, ![1, 512]⟩
abbrev S3x4096x512 : Shape := ⟨3, ![3, 4096, 512]⟩
abbrev S512x512 : Shape := ⟨2, ![512, 512]⟩
abbrev S3 : Shape := ⟨1, ![3]⟩
abbrev S1 : Shape := ⟨1, ![1]⟩
abbrev S_ : Shape := ⟨0, ![]⟩
abbrev S1x4096x512 : Shape := ⟨3, ![1, 4096, 512]⟩
abbrev S4096x512 : Shape := ⟨2, ![4096, 512]⟩

abbrev nBuf : Space → Nat
  | .hbm => 8
  | .vmem => 8
  | .smem => 0
  | _ => 0

abbrev bufTy : (tb : Table) → Fin (tcTables nBuf tb) → BufTy
  | .hbm, ⟨0, _⟩ => ⟨S16384x512, .f32⟩
  | .hbm, ⟨1, _⟩ => ⟨S512x128, .f32⟩
  | .hbm, ⟨2, _⟩ => ⟨S128, .f32⟩
  | .hbm, ⟨3, _⟩ => ⟨S128x512, .f32⟩
  | .hbm, ⟨4, _⟩ => ⟨S512, .f32⟩
  | .hbm, ⟨5, _⟩ => ⟨S1x128, .f32⟩
  | .hbm, ⟨6, _⟩ => ⟨S1x512, .f32⟩
  | .hbm, ⟨7, _⟩ => ⟨S16384x512, .f32⟩
  | .local _ .vmem, ⟨0, _⟩ => ⟨S512x128, .f32⟩
  | .local _ .vmem, ⟨1, _⟩ => ⟨S1x128, .f32⟩
  | .local _ .vmem, ⟨2, _⟩ => ⟨S128x512, .f32⟩
  | .local _ .vmem, ⟨3, _⟩ => ⟨S1x512, .f32⟩
  | .local _ .vmem, ⟨4, _⟩ => ⟨S3x4096x512, .f32⟩
  | .local _ .vmem, ⟨5, _⟩ => ⟨S3x4096x512, .f32⟩
  | .local _ .vmem, ⟨6, _⟩ => ⟨S512x512, .bf16⟩
  | .local _ .vmem, ⟨7, _⟩ => ⟨S1x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_v0 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S16384x512 : Shape := ⟨2, ![16384, 512]⟩
abbrev S512x128 : Shape := ⟨2, ![512, 128]⟩
abbrev S128 : Shape := ⟨1, ![128]⟩
abbrev S128x512 : Shape := ⟨2, ![128, 512]⟩
abbrev S512 : Shape := ⟨1, ![512]⟩
abbrev S16384x128 : Shape := ⟨2, ![16384, 128]⟩
abbrev S1x128 : Shape := ⟨2, ![1, 128]⟩
abbrev S1x512 : Shape := ⟨2, ![1, 512]⟩

abbrev nBuf : Space → Nat
  | .hbm => 13
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S512x128, .f32⟩
  | .hbm, ⟨2, _⟩ => ⟨S128, .f32⟩
  | .hbm, ⟨3, _⟩ => ⟨S128x512, .f32⟩
  | .hbm, ⟨4, _⟩ => ⟨S512, .f32⟩
  | .hbm, ⟨5, _⟩ => ⟨S16384x128, .f32⟩
  | .hbm, ⟨6, _⟩ => ⟨S1x128, .f32⟩
  | .hbm, ⟨7, _⟩ => ⟨S16384x128, .f32⟩
  | .hbm, ⟨8, _⟩ => ⟨S16384x128, .f32⟩
  | .hbm, ⟨9, _⟩ => ⟨S16384x512, .f32⟩
  | .hbm, ⟨10, _⟩ => ⟨S1x512, .f32⟩
  | .hbm, ⟨11, _⟩ => ⟨S16384x512, .f32⟩
  | .hbm, ⟨12, _⟩ => ⟨S16384x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Proof.Chunk.lean ====
module

public import proofs.«01_k».proof.Proof.Gen.Kernel.Launch
public import proofs.«01_k».proof.Proof.Gen.Kernel.Frame
public import proofs.«01_k».proof.Proof.Gen.Kernel.Skeleton
public import proofs.«01_k».proof.Proof.Gen.Kernel.Points
public import Idealize.ShloMosaic.Lib.Pipeline.FrameBody
public import Idealize.ShloMosaic.Lib.Pipeline.FrameValue
public import Idealize.ShloMosaic.Lib.Ring
public import Idealize.ShloMosaic.Lib.VecWindow
public import Idealize.ShloMosaic.Lib.Tactic

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! What one block of 4096 rows computes, and how it passes through a slot of each ring.

The kernel moves the operand through three slots of a ring, a block of 4096 rows at a time. A slot is a plane of a three dimensional
buffer, and the copies see it as a matrix; the lemmas below take that difference of shape away. -/

/-- The operand and the result, left in HBM. -/
abbrev xM : Memref sig .tc .hbm S16384x512 .f32 := Memref.whole main_arg0
abbrev oM : Memref sig .tc .hbm S16384x512 .f32 := Memref.whole main_v0
/-- The kernel's own buffers: the input ring, the output ring, the product of the weights, the bias row. -/
abbrev inM : Memref sig .tc .vmem S3x4096x512 .f32 := Memref.whole cc0_scratch0
abbrev outM : Memref sig .tc .vmem S3x4096x512 .f32 := Memref.whole cc0_scratch1
abbrev wM : Memref sig .tc .vmem S512x512 .bf16 := Memref.whole cc0_scratch2
abbrev cM : Memref sig .tc .vmem S1x512 .f32 := Memref.whole cc0_scratch3

/-- A block of 4096 rows of a 16384-row array in HBM. -/
abbrev rows (M : Memref sig .tc .hbm S16384x512 .f32) (r : Fin 2 → ℕ) (h : ∀ a, r a + S4096x512.size a ≤ S16384x512.size a) :
    Memref sig .tc .hbm S4096x512 .f32 := M.slice (Rect.unit (s := S16384x512) r S4096x512.size h) (fun _ => rfl)
/-- One slot of a ring, seen as a matrix. -/
abbrev slot (M : Memref sig .tc .vmem S3x4096x512 .f32) (r : Fin 3 → ℕ) (h : ∀ a, r a + S1x4096x512.size a ≤ S3x4096x512.size a) :
    Memref sig .tc .vmem S4096x512 .f32 :=
  (M.slice (Rect.unit (s := S3x4096x512) r S1x4096x512.size h) (fun _ => rfl)).squeeze S4096x512 squeezes_S1x4096x512_S4096x512

/-- The block of the operand, and of the result, that starts at row `k`; slot `k` of the input ring, and of the output ring. -/
abbrev bx (k : ℕ) (h) := rows xM ![k, 0] h
abbrev bo (k : ℕ) (h) := rows oM ![k, 0] h
abbrev si (k : ℕ) (h) := slot inM ![k, 0, 0] h
abbrev so (k : ℕ) (h) := slot outM ![k, 0, 0] h

/-- What the kernel computes of one block of rows `xb`, from the product `w` of the weights and the bias row `cc`: xb · w + cc. -/
def blockOut (xb : FVec F S4096x512 .f32) (w : FVec F S512x512 .bf16) (cc : FVec F S1x512 .f32) : FVec F S4096x512 .f32 :=
  addf (matmul dot_S4096x512_S512x512_S4096x512_1_0_0_1_n_n none (truncf .bf16 xb bitsLt_bf16_f32) w (constant S4096x512 .f32 0x00000000#32))
    (broadcastTo S4096x512 cc broadcasts_S1x512_S4096x512)

/-- Reshaping a matrix to a plane and back is the identity. -/
theorem shapeCast_there_back {α : Type} (x : S4096x512.Idx → α) (h h') :
    shapeCast S4096x512 (shapeCast S1x4096x512 x h) h' = x := by
  funext j
  simp only [shapeCast, Shape.reshapeEquiv_reshapeEquiv, Shape.reshapeEquiv_self]

/-- The stored plane of a block, read as a matrix, is the block's result. The four blocks of the kernel run the same operations. -/
theorem pay3_eq (xb : FVec F S4096x512 .f32) (w : FVec F S512x512 .bf16) (cc : FVec F S1x512 .f32) (h h') :
    shapeCast S4096x512 (k0_pay3 (shapeCast S1x4096x512 xb h) w cc) h' = blockOut xb w cc := by
  unfold k0_pay3 blockOut
  simp only [shapeCast_there_back]
theorem pay4_eq (xb : FVec F S4096x512 .f32) (w : FVec F S512x512 .bf16) (cc : FVec F S1x512 .f32) (h h') :
    shapeCast S4096x512 (k0_pay4 (shapeCast S1x4096x512 xb h) w cc) h' = blockOut xb w cc := by
  unfold k0_pay4 blockOut
  simp only [shapeCast_there_back]
theorem pay5_eq (xb : FVec F S4096x512 .f32) (w : FVec F S512x512 .bf16) (cc : FVec F S1x512 .f32) (h h') :
    shapeCast S4096x512 (k0_pay5 (shapeCast S1x4096x512 xb h) w cc) h' = blockOut xb w cc := by
  unfold k0_pay5 blockOut
  simp only [shapeCast_there_back]
theorem pay6_eq (xb : FVec F S4096x512 .f32) (w : FVec F S512x512 .bf16) (cc : FVec F S1x512 .f32) (h h') :
    shapeCast S4096x512 (k0_pay6 (shapeCast S1x4096x512 xb h) w cc) h' = blockOut xb w cc := by
  unfold k0_pay6 blockOut
  simp only [shapeCast_there_back]

/-- A rectangle of a view, read through a reshape of it after a store through the rectangle: the payload, reshaped. -/
theorem read_store_reshaped {sp : Space} {s s' : Shape} {e : EltTy} (v : View sig .tc sp s e) (r : Rect s) (h : s'.numel = r.shape.numel)
    (h' : r.shape.ShapeCasts s') (f : v.ty.Contents (Elt F)) (p : r.shape.Idx → Elt F e) :
    ((v.slice r).reshape s' h).read (Elt F) ((v.slice r).write (Elt F) f p Finset.univ) = shapeCast s' p h' := by
  funext j
  exact congrFun (View.read_write_univ (v := v.slice r) f p) (Shape.reshapeEquiv h j)

/-- A rectangle of a view, loaded after a copy through a reshape of it: what was copied, reshaped. -/
theorem load_copied_reshaped {sp : Space} {s s' : Shape} {e : EltTy} (v : View sig .tc sp s e) (r : Rect s) (h : s'.numel = r.shape.numel)
    (h' : s'.ShapeCasts r.shape) (f : v.ty.Contents (Elt F)) (q : s'.Idx → Elt F e) (L : List (View.Piece (Elt F) s' e)) :
    v.readAt (Elt F) r.toLoadRect (((v.slice r).reshape s' h).writes (Elt F) f (⟨Rect.whole s', q⟩ :: L)) = shapeCast r.shape q h' := by
  funext y
  have e' := View.read_writes_cons_emb ((v.slice r).reshape s' h) f (Rect.whole s') q L (Shape.reshapeEquiv h.symm y)
  rw [Rect.emb_whole_apply] at e'
  refine Eq.trans (congrArg ((v.slice r).read (Elt F) _) ?_) e'
  show y = Shape.reshapeEquiv h (Shape.reshapeEquiv h.symm y)
  rw [Shape.reshapeEquiv_reshapeEquiv, Shape.reshapeEquiv_self]

/-- A slot of the output ring, read as a matrix after a plane was stored in it: the plane as a matrix. -/
theorem read_slot_store (k : ℕ) (h) (f : outM.view.ty.Contents (Elt F)) (p : S1x4096x512.Idx → Elt F .f32) :
    (so k h).view.read (Elt F) ((outM.access (Rect.unit (s := S3x4096x512) ![k, 0, 0] S1x4096x512.size h)).write (Elt F) f p Finset.univ)
      = shapeCast S4096x512 p shapeCasts_S1x4096x512_S4096x512 :=
  read_store_reshaped outM.view (Rect.unit (s := S3x4096x512) ![k, 0, 0] S1x4096x512.size h) _ shapeCasts_S1x4096x512_S4096x512 f p

/-- A slot of the input ring, loaded as a plane after a matrix was copied into it: the matrix as a plane. -/
theorem load_slot_copied (k : ℕ) (h) (f : inM.view.ty.Contents (Elt F)) (q : S4096x512.Idx → Elt F .f32)
    (L : List (View.Piece (Elt F) S4096x512 .f32)) :
    inM.view.readAt (Elt F) (Rect.unit (s := S3x4096x512) ![k, 0, 0] S1x4096x512.size h).toLoadRect
        ((si k h).view.writes (Elt F) f (⟨Rect.whole S4096x512, q⟩ :: L))
      = shapeCast S1x4096x512 q shapeCasts_S4096x512_S1x4096x512 :=
  load_copied_reshaped inM.view (Rect.unit (s := S3x4096x512) ![k, 0, 0] S1x4096x512.size h) squeezes_S1x4096x512_S4096x512.numel_eq
    shapeCasts_S4096x512_S1x4096x512 f q L

end Cert.Kernel.Hand

end
-- ==== Proof.Body.lean ====
module

public import proofs.«01_k».proof.Proof.Chunk
public import proofs.«01_k».proof.Proof.Gen.Kernel.Launch
public import proofs.«01_k».proof.Proof.Gen.Kernel.Frame
public import proofs.«01_k».proof.Proof.Gen.Kernel.Skeleton
public import proofs.«01_k».proof.Proof.Gen.Kernel.Points
public import Idealize.ShloMosaic.Lib.Pipeline.FrameBody
public import Idealize.ShloMosaic.Lib.Pipeline.FrameValue
public import Idealize.ShloMosaic.Lib.Ring
public import Idealize.ShloMosaic.Lib.VecWindow
public import Idealize.ShloMosaic.Lib.Tactic

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! The kernel's body, run symbolically once.

The operand and the result are held as four blocks of 4096 rows and the two rings as three slots each, so that a copy in flight takes only
what it moves. What the run leaves in each block of the result is read off here: the block's product with the weights' product, plus the
bias row. -/

/-- The proof's user algebra: the pipeline library's beside the transfers' counters. -/
local notation "𝕄" => MT nD τ sig Unit (Elt F) ℕ (Pipeline.UD sig nD τ) ℕ

/-- A view's elements held whole at contents `f`. -/
abbrev pt {sp : Space} {S : Shape} {e : EltTy} (c : Dev nD) (M : Memref sig .tc sp S e) (f : Buf (Elt F) (M.view.loc (c : Thread nD τ))) : sProp 𝕄 :=
  M.view.loc (c : Thread nD τ) ↦[M.view.set]{fullShare} f
/-- A view's elements held whole at contents through which the view reads `x`. -/
abbrev reads {sp : Space} {S : Shape} {e : EltTy} (c : Dev nD) (M : Memref sig .tc sp S e) (x : S.Idx → Elt F e) : sProp 𝕄 :=
  iprop(∃ g : Buf (Elt F) (M.view.loc (c : Thread nD τ)), ⌜M.view.read (Elt F) g = x⌝ ∗ pt c M g)
/-- A view's elements held whole at some contents. -/
abbrev held {sp : Space} {S : Shape} {e : EltTy} (c : Dev nD) (M : Memref sig .tc sp S e) : sProp 𝕄 :=
  iprop(∃ g : Buf (Elt F) (M.view.loc (c : Thread nD τ)), pt c M g)

/-- A semaphore of the kernel's at zero. -/
abbrev sv (c : Dev nD) (n : Fin 10) : sProp 𝕄 := semVal ((c : Thread nD τ), SemLoc.dma n) 0

/-- What the body leaves: the operands as they were, each block of the result computed from the operand's block, the rings, the weights'
    product and the bias row at some contents, the semaphores at zero. -/
def bodyPost (c : Dev nD) (arg1 : Memref sig .tc .vmem S512x128 .f32) (arg2 : Memref sig .tc .vmem S1x128 .f32)
    (arg3 : Memref sig .tc .vmem S128x512 .f32) (arg4 : Memref sig .tc .vmem S1x512 .f32)
    (X : Buf (Elt F) (xM.view.loc (c : Thread nD τ))) (f1 : Buf (Elt F) (arg1.view.loc (c : Thread nD τ))) (f2 : Buf (Elt F) (arg2.view.loc (c : Thread nD τ)))
    (f3 : Buf (Elt F) (arg3.view.loc (c : Thread nD τ))) (f4 : Buf (Elt F) (arg4.view.loc (c : Thread nD τ)))
    (w : FVec F S512x512 .bf16) (cc : FVec F S1x512 .f32) : sProp 𝕄 :=
  iprop(pt c arg1 f1 ∗ pt c arg2 f2 ∗ pt c arg3 f3 ∗ pt c arg4 f4
      ∗ pt c (bx 0 inb_S16384x512_S4096x512_0_0) X ∗ pt c (bx 4096 inb_S16384x512_S4096x512_4096_0) X
      ∗ pt c (bx 8192 inb_S16384x512_S4096x512_8192_0) X ∗ pt c (bx 12288 inb_S16384x512_S4096x512_12288_0) X
      ∗ reads c (bo 0 inb_S16384x512_S4096x512_0_0) (blockOut ((bx 0 inb_S16384x512_S4096x512_0_0).view.read (Elt F) X) w cc)
      ∗ reads c (bo 4096 inb_S16384x512_S4096x512_4096_0) (blockOut ((bx 4096 inb_S16384x512_S4096x512_4096_0).view.read (Elt F) X) w cc)
      ∗ reads c (bo 8192 inb_S16384x512_S4096x512_8192_0) (blockOut ((bx 8192 inb_S16384x512_S4096x512_8192_0).view.read (Elt F) X) w cc)
      ∗ reads c (bo 12288 inb_S16384x512_S4096x512_12288_0) (blockOut ((bx 12288 inb_S16384x512_S4096x512_12288_0).view.read (Elt F) X) w cc)
      ∗ held (F := F) c (si 0 inb_S3x4096x512_S1x4096x512_0_0_0) ∗ held (F := F) c (si 1 inb_S3x4096x512_S1x4096x512_1_0_0)
      ∗ held (F := F) c (si 2 inb_S3x4096x512_S1x4096x512_2_0_0)
      ∗ held (F := F) c (so 0 inb_S3x4096x512_S1x4096x512_0_0_0) ∗ held (F := F) c (so 1 inb_S3x4096x512_S1x4096x512_1_0_0)
      ∗ held (F := F) c (so 2 inb_S3x4096x512_S1x4096x512_2_0_0)
      ∗ held (F := F) c wM ∗ held (F := F) c cM
      ∗ sv c 4 ∗ sv c 5 ∗ sv c 6 ∗ sv c 7 ∗ sv c 8 ∗ sv c 9
      ∗ ∃ W', owes (c : Thread nD τ) 0 W')

/-- One copy out of a ring slot: what the block of the result reads afterwards is what the slot read. -/
theorem read_copied (k : ℕ) (h) (O : oM.view.ty.Contents (Elt F)) (p q : S4096x512.Idx → Elt F .f32) (e : p = q) :
    (bo k h).view.read (Elt F) ((bo k h).view.writes (Elt F) O [⟨Rect.whole S4096x512, p⟩]) = q := by
  subst e
  funext j
  have e' := View.read_writes_cons_emb (bo k h).view O (Rect.whole S4096x512) p [] j
  rwa [Rect.emb_whole_apply] at e'

/-- A slot of the output ring after a block's plane was stored in it, read as a matrix, is the block's result: the four blocks' stores. -/
theorem stored3 (k : ℕ) (h) (f : outM.view.ty.Contents (Elt F)) {xs : Vec F S1x4096x512 .f32} {xb : FVec F S4096x512 .f32} {w w' : FVec F S512x512 .bf16}
    {cc cc' : FVec F S1x512 .f32} (hx : xs = shapeCast S1x4096x512 xb shapeCasts_S4096x512_S1x4096x512) (hw : w = w') (hc : cc = cc') :
    (so k h).view.read (Elt F) ((outM.access (Rect.unit (s := S3x4096x512) ![k, 0, 0] S1x4096x512.size h)).write (Elt F) f (k0_pay3 xs w cc) Finset.univ)
      = blockOut xb w' cc' := by
  subst hx hw hc; exact (read_slot_store k h f _).trans (pay3_eq xb w cc _ _)
theorem stored4 (k : ℕ) (h) (f : outM.view.ty.Contents (Elt F)) {xs : Vec F S1x4096x512 .f32} {xb : FVec F S4096x512 .f32} {w w' : FVec F S512x512 .bf16}
    {cc cc' : FVec F S1x512 .f32} (hx : xs = shapeCast S1x4096x512 xb shapeCasts_S4096x512_S1x4096x512) (hw : w = w') (hc : cc = cc') :
    (so k h).view.read (Elt F) ((outM.access (Rect.unit (s := S3x4096x512) ![k, 0, 0] S1x4096x512.size h)).write (Elt F) f (k0_pay4 xs w cc) Finset.univ)
      = blockOut xb w' cc' := by
  subst hx hw hc; exact (read_slot_store k h f _).trans (pay4_eq xb w cc _ _)
theorem stored5 (k : ℕ) (h) (f : outM.view.ty.Contents (Elt F)) {xs : Vec F S1x4096x512 .f32} {xb : FVec F S4096x512 .f32} {w w' : FVec F S512x512 .bf16}
    {cc cc' : FVec F S1x512 .f32} (hx : xs = shapeCast S1x4096x512 xb shapeCasts_S4096x512_S1x4096x512) (hw : w = w') (hc : cc = cc') :
    (so k h).view.read (Elt F) ((outM.access (Rect.unit (s := S3x4096x512) ![k, 0, 0] S1x4096x512.size h)).write (Elt F) f (k0_pay5 xs w cc) Finset.univ)
      = blockOut xb w' cc' := by
  subst hx hw hc; exact (read_slot_store k h f _).trans (pay5_eq xb w cc _ _)
theorem stored6 (k : ℕ) (h) (f : outM.view.ty.Contents (Elt F)) {xs : Vec F S1x4096x512 .f32} {xb : FVec F S4096x512 .f32} {w w' : FVec F S512x512 .bf16}
    {cc cc' : FVec F S1x512 .f32} (hx : xs = shapeCast S1x4096x512 xb shapeCasts_S4096x512_S1x4096x512) (hw : w = w') (hc : cc = cc') :
    (so k h).view.read (Elt F) ((outM.access (Rect.unit (s := S3x4096x512) ![k, 0, 0] S1x4096x512.size h)).write (Elt F) f (k0_pay6 xs w cc) Finset.univ)
      = blockOut xb w' cc' := by
  subst hx hw hc; exact (read_slot_store k h f _).trans (pay6_eq xb w cc _ _)

/-- The weights' product, loaded back from its buffer. -/
theorem w_loaded {a a' : Vec F S512x128 .f32} {b b' : Vec F S128x512 .f32} (ha : a = a') (hb : b = b') (i i') :
    wM.view.readCov (Val := Elt F) [⟨Rect.unit (s := S512x512) ![0, 0] S512x512.size i, k0_pay1 a b⟩] (Rect.unit (s := S512x512) ![0, 0] S512x512.size i').toLoadRect
      = k0_pay1 a' b' := by
  subst ha hb; exact View.readCov_full wM.view _ _ _ _

/-- The bias row, loaded back from its buffer. -/
theorem c_loaded {a a' : Vec F S1x128 .f32} {b b' : Vec F S128x512 .f32} {d d' : Vec F S1x512 .f32} (ha : a = a') (hb : b = b') (hd : d = d') (i i') :
    cM.view.readCov (Val := Elt F) [⟨Rect.unit (s := S1x512) ![0, 0] S1x512.size i, k0_pay2 a b d⟩] (Rect.unit (s := S1x512) ![0, 0] S1x512.size i').toLoadRect
      = k0_pay2 a' b' d' := by
  subst ha hb hd; exact View.readCov_full cM.view _ _ _ _

set_option maxRecDepth 16384 in
/-- The body's run, in the weakest-precondition form the launch asks for. -/
theorem bodyRun (c : Dev nD)
    (arg1 : Memref sig .tc .vmem S512x128 .f32) (harg1 : arg1.IsWhole) (arg2 : Memref sig .tc .vmem S1x128 .f32) (harg2 : arg2.IsWhole)
    (arg3 : Memref sig .tc .vmem S128x512 .f32) (harg3 : arg3.IsWhole) (arg4 : Memref sig .tc .vmem S1x512 .f32) (harg4 : arg4.IsWhole)
    (X : Buf (Elt F) (xM.view.loc (c : Thread nD τ))) (O : Buf (Elt F) (oM.view.loc (c : Thread nD τ)))
    (f1 f2 f3 f4 i0 i1 i2 o0 o1 o2 fw fc) (W : Waits sig Unit) (K : PUnit → sProp 𝕄) :
    iprop(pt c arg1 f1 ∗ pt c arg2 f2 ∗ pt c arg3 f3 ∗ pt c arg4 f4
      ∗ pt c (bx 0 inb_S16384x512_S4096x512_0_0) X ∗ pt c (bx 4096 inb_S16384x512_S4096x512_4096_0) X
      ∗ pt c (bx 8192 inb_S16384x512_S4096x512_8192_0) X ∗ pt c (bx 12288 inb_S16384x512_S4096x512_12288_0) X
      ∗ pt c (bo 0 inb_S16384x512_S4096x512_0_0) O ∗ pt c (bo 4096 inb_S16384x512_S4096x512_4096_0) O
      ∗ pt c (bo 8192 inb_S16384x512_S4096x512_8192_0) O ∗ pt c (bo 12288 inb_S16384x512_S4096x512_12288_0) O
      ∗ pt c (si 0 inb_S3x4096x512_S1x4096x512_0_0_0) i0 ∗ pt c (si 1 inb_S3x4096x512_S1x4096x512_1_0_0) i1 ∗ pt c (si 2 inb_S3x4096x512_S1x4096x512_2_0_0) i2
      ∗ pt c (so 0 inb_S3x4096x512_S1x4096x512_0_0_0) o0 ∗ pt c (so 1 inb_S3x4096x512_S1x4096x512_1_0_0) o1 ∗ pt c (so 2 inb_S3x4096x512_S1x4096x512_2_0_0) o2
      ∗ pt c wM fw ∗ pt c cM fc
      ∗ sv c 4 ∗ sv c 5 ∗ sv c 6 ∗ sv c 7 ∗ sv c 8 ∗ sv c 9
      ∗ owes (c : Thread nD τ) 0 W
      ∗ (bodyPost c arg1 arg2 arg3 arg4 X f1 f2 f3 f4
          (k0_pay1 (arg1.view.read (Elt F) f1) (arg3.view.read (Elt F) f3))
          (k0_pay2 (arg2.view.read (Elt F) f2) (arg3.view.read (Elt F) f3) (arg4.view.read (Elt F) f4)) -∗ K ⟨⟩))
     ⊢ wp frame (wpE (defs₀ (F := F)) Variants.none c none) Set.univ
        (cc0__manual_kernel xM (Memref.isWhole_whole _) arg1 harg1 arg2 harg2 arg3 harg3 arg4 harg4 oM (Memref.isWhole_whole _)
          inM (Memref.isWhole_whole _) outM (Memref.isWhole_whole _) wM (Memref.isWhole_whole _) cM (Memref.isWhole_whole _) cc0_scratch4 cc0_scratch5) K := by
  simp only [cc0__manual_kernel_eq_skeleton]; unfold cc0__manual_kernel_skel
  iintro ⟨H1, H2, H3, H4, HX0, HX1, HX2, HX3, HO0, HO1, HO2, HO3, HI0, HI1, HI2, HB0, HB1, HB2, Hw, Hc, Hq4, Hq5, Hq6, Hq7, Hq8, Hq9, HW, Hk⟩
  sl_exec
  sl_step
  iapply Hk
  unfold bodyPost
  isplitl [H1]; · iexact H1
  isplitl [H2]; · iexact H2
  isplitl [H3]; · iexact H3
  isplitl [H4]; · iexact H4
  isplitl [HX0]; · iexact HX0
  isplitl [HX1]; · iexact HX1
  isplitl [HX2]; · iexact HX2
  isplitl [HX3]; · iexact HX3
  isplitl [HO0]
  · iexists _; isplitr; swap; · iexact HO0
    ipureintro
    refine read_copied _ _ _ _ _ (stored3 _ _ _ (load_slot_copied _ _ _ _ _) (w_loaded ?_ ?_ _ _) (c_loaded ?_ ?_ ?_ _ _)) <;>
      exact View.readAt_full _ _ _
  isplitl [HO1]
  · iexists _; isplitr; swap; · iexact HO1
    ipureintro
    refine read_copied _ _ _ _ _ (stored4 _ _ _ (load_slot_copied _ _ _ _ _) (w_loaded ?_ ?_ _ _) (c_loaded ?_ ?_ ?_ _ _)) <;>
      exact View.readAt_full _ _ _
  isplitl [HO2]
  · iexists _; isplitr; swap; · iexact HO2
    ipureintro
    refine read_copied _ _ _ _ _ (stored5 _ _ _ (load_slot_copied _ _ _ _ _) (w_loaded ?_ ?_ _ _) (c_loaded ?_ ?_ ?_ _ _)) <;>
      exact View.readAt_full _ _ _
  isplitl [HO3]
  · iexists _; isplitr; swap; · iexact HO3
    ipureintro
    refine read_copied _ _ _ _ _ (stored6 _ _ _ (load_slot_copied _ _ _ _ _) (w_loaded ?_ ?_ _ _) (c_loaded ?_ ?_ ?_ _ _)) <;>
      exact View.readAt_full _ _ _
  isplitl [HI0]; · iexists _; iexact HI0
  isplitl [HI1]; · iexists _; iexact HI1
  isplitl [HI2]; · iexists _; iexact HI2
  isplitl [HB0]; · iexists _; iexact HB0
  isplitl [HB1]; · iexists _; iexact HB1
  isplitl [HB2]; · iexists _; iexact HB2
  isplitl [Hw]; · iexists _; iexact Hw
  isplitl [Hc]; · iexists _; iexact Hc
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  iexists _; iexact HW

end Cert.Kernel.Hand

end
-- ==== Proof.Blocks.lean ====
module

public import proofs.«01_k».proof.Proof.Body
public import proofs.«01_k».proof.Proof.Gen.Kernel.Launch
public import proofs.«01_k».proof.Proof.Gen.Kernel.Frame
public import proofs.«01_k».proof.Proof.Gen.Kernel.Skeleton
public import proofs.«01_k».proof.Proof.Gen.Kernel.Points
public import Idealize.ShloMosaic.Lib.Pipeline.FrameBody
public import Idealize.ShloMosaic.Lib.Pipeline.FrameValue
public import Idealize.ShloMosaic.Lib.Ring
public import Idealize.ShloMosaic.Lib.VecWindow
public import Idealize.ShloMosaic.Lib.ViewIndex
public import Idealize.ShloMosaic.Lib.ValueIdxCore
public import Idealize.ShloMosaic.Lib.Tactic

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! The arrays in HBM as four blocks of 4096 rows, the rings as three slots: held whole, each is held part by part, and back. The result's
four blocks join to one array, `outArr`. -/

local notation "𝕄" => MT nD τ sig Unit (Elt F) ℕ (Pipeline.UD sig nD τ) ℕ

/-- Equal assertions entail each other. -/
theorem of_eq {P Q : sProp 𝕄} (e : P = Q) : P ⊢ Q := e ▸ .rfl

/-- Block `b` of an array of 16384 rows. -/
def rowsOf {α : Type} (X : S16384x512.Idx → α) (b : Fin 4) : S4096x512.Idx → α :=
  fun j => X (ValueIdx.ix2 ⟨4096 * b.val + (j 0).val, by have h : (j 0).val < 4096 := (j 0).isLt; omega⟩ (j 1))

/-- The result: row `i` is row `i mod 4096` of what the kernel computes of block `i / 4096`. -/
def outArr (X : FVec F S16384x512 .f32) (w : FVec F S512x512 .bf16) (cc : FVec F S1x512 .f32) : FVec F S16384x512 .f32 :=
  fun i => blockOut (rowsOf X ⟨(i 0).val / 4096, by have h : (i 0).val < 16384 := (i 0).isLt; omega⟩) w cc
    (ValueIdx.ix2 ⟨(i 0).val % 4096, Nat.mod_lt _ (by decide)⟩ (i 1))

/-- The result's blocks are what the kernel computes of the operand's. -/
theorem rowsOf_outArr (X : FVec F S16384x512 .f32) (w : FVec F S512x512 .bf16) (cc : FVec F S1x512 .f32) (b : Fin 4) :
    rowsOf (outArr X w cc) b = blockOut (rowsOf X b) w cc := by
  funext j
  have h0 : (j 0).val < 4096 := (j 0).isLt
  have hd : (4096 * b.val + (j 0).val) / 4096 = b.val := by omega
  have hm : (4096 * b.val + (j 0).val) % 4096 = (j 0).val := by omega
  unfold rowsOf outArr
  have hb : ∀ h, (⟨(4096 * b.val + (j 0).val) / 4096, h⟩ : Fin 4) = b := fun _ => Fin.ext hd
  have hj : ∀ h, ValueIdx.ix2 (⟨(4096 * b.val + (j 0).val) % 4096, h⟩ : Fin 4096) (j 1) = j := fun h =>
    funext fun a => by
      match a with
      | ⟨0, _⟩ => exact Fin.ext hm
      | ⟨1, _⟩ => rfl
  refine (congrArg (fun b' => blockOut (rowsOf X b') w cc _) (hb _)).trans ?_
  exact congrArg (blockOut (rowsOf X b) w cc) (hj _)

/-- Where block `b` starts, and that it fits. -/
abbrev rowOff (b : Fin 4) : Fin 2 → ℕ := ![4096 * b.val, 0]
theorem rowInb : ∀ (b : Fin 4) (a : Fin 2), rowOff b a + S4096x512.size a ≤ S16384x512.size a := by decide
theorem slotInb : ∀ (b : Fin 3) (a : Fin 3), (![b.val, 0, 0] : Fin 3 → ℕ) a + S1x4096x512.size a ≤ S3x4096x512.size a := by decide

/-- A block of the operand, and of the result, reads the block of the array. -/
theorem read_bx (b : Fin 4) (X : FVec F S16384x512 .f32) : (bx (4096 * b.val) (rowInb b)).view.read (Elt F) X = rowsOf X b :=
  funext fun j => congrArg X (funext fun a => by
    match a with
    | ⟨0, _⟩ => exact Fin.ext (by show 4096 * b.val + 1 * (j 0).val = 4096 * b.val + (j 0).val; omega)
    | ⟨1, _⟩ => exact Fin.ext (by show 0 + 1 * (j 1).val = (j 1).val; omega))
theorem read_bo (b : Fin 4) (X : FVec F S16384x512 .f32) : (bo (4096 * b.val) (rowInb b)).view.read (Elt F) X = rowsOf X b :=
  funext fun j => congrArg X (funext fun a => by
    match a with
    | ⟨0, _⟩ => exact Fin.ext (by show 4096 * b.val + 1 * (j 0).val = 4096 * b.val + (j 0).val; omega)
    | ⟨1, _⟩ => exact Fin.ext (by show 0 + 1 * (j 1).val = (j 1).val; omega))

/-- The blocks' element sets: disjoint, and the whole array's together. -/
theorem rows_disjoint (b b' : Fin 4) (h : b ≠ b') :
    Disjoint (Rect.unit (s := S16384x512) (rowOff b) S4096x512.size (rowInb b)).set (Rect.unit (s := S16384x512) (rowOff b') S4096x512.size (rowInb b')).set :=
  Ring.lead_disjoint (s := S16384x512) (0 : Fin 2) 4096 rowOff S4096x512.size rowInb (fun _ => rfl) rfl b b' h
theorem rows_cover : Finset.univ.biUnion (fun b : Fin 4 => (Rect.unit (s := S16384x512) (rowOff b) S4096x512.size (rowInb b)).set) = Finset.univ :=
  Ring.lead_cover (s := S16384x512) (0 : Fin 2) 4096 rowOff S4096x512.size rowInb (fun _ => rfl) (by decide) rfl (by decide) rfl
theorem slots_disjoint (b b' : Fin 3) (h : b ≠ b') :
    Disjoint (Rect.unit (s := S3x4096x512) ![b.val, 0, 0] S1x4096x512.size (slotInb b)).set
      (Rect.unit (s := S3x4096x512) ![b'.val, 0, 0] S1x4096x512.size (slotInb b')).set :=
  Ring.lead_disjoint (s := S3x4096x512) (0 : Fin 3) 1 (fun b => ![b.val, 0, 0]) S1x4096x512.size slotInb (fun b => (Nat.one_mul _).symm) rfl b b' h
theorem slots_cover : Finset.univ.biUnion (fun b : Fin 3 => (Rect.unit (s := S3x4096x512) ![b.val, 0, 0] S1x4096x512.size (slotInb b)).set) = Finset.univ :=
  Ring.lead_cover (s := S3x4096x512) (0 : Fin 3) 1 (fun b => ![b.val, 0, 0]) S1x4096x512.size slotInb (fun b => (Nat.one_mul _).symm) (by decide) rfl (by decide) rfl

/-- A block, and a slot, held is the buffer held on the rectangle's elements. -/
theorem pt_bx (c : Dev nD) (k : ℕ) (h) (X : Buf (Elt F) (xM.view.loc (c : Thread nD τ))) :
    pt c (bx k h) X = (((c : Thread nD τ).loc main_arg0) ↦[(Rect.unit (s := S16384x512) ![k, 0] S4096x512.size h).set]{fullShare} X : sProp 𝕄) :=
  congrArg (fun S => (((c : Thread nD τ).loc main_arg0) ↦[S]{fullShare} X : sProp 𝕄)) (View.set_slice_whole main_arg0 _)
theorem pt_bo (c : Dev nD) (k : ℕ) (h) (X : Buf (Elt F) (oM.view.loc (c : Thread nD τ))) :
    pt c (bo k h) X = (((c : Thread nD τ).loc main_v0) ↦[(Rect.unit (s := S16384x512) ![k, 0] S4096x512.size h).set]{fullShare} X : sProp 𝕄) :=
  congrArg (fun S => (((c : Thread nD τ).loc main_v0) ↦[S]{fullShare} X : sProp 𝕄)) (View.set_slice_whole main_v0 _)
theorem pt_si (c : Dev nD) (k : ℕ) (h) (X : Buf (Elt F) (inM.view.loc (c : Thread nD τ))) :
    pt c (si k h) X = (((c : Thread nD τ).loc cc0_scratch0) ↦[(Rect.unit (s := S3x4096x512) ![k, 0, 0] S1x4096x512.size h).set]{fullShare} X : sProp 𝕄) :=
  congrArg (fun S => (((c : Thread nD τ).loc cc0_scratch0) ↦[S]{fullShare} X : sProp 𝕄)) ((View.set_reshape _ _).trans (View.set_slice_whole cc0_scratch0 _))
theorem pt_so (c : Dev nD) (k : ℕ) (h) (X : Buf (Elt F) (outM.view.loc (c : Thread nD τ))) :
    pt c (so k h) X = (((c : Thread nD τ).loc cc0_scratch1) ↦[(Rect.unit (s := S3x4096x512) ![k, 0, 0] S1x4096x512.size h).set]{fullShare} X : sProp 𝕄) :=
  congrArg (fun S => (((c : Thread nD τ).loc cc0_scratch1) ↦[S]{fullShare} X : sProp 𝕄)) ((View.set_reshape _ _).trans (View.set_slice_whole cc0_scratch1 _))

/-- The operand held whole is its four blocks held. -/
theorem x_blocks (c : Dev nD) (X : Buf (Elt F) (xM.view.loc (c : Thread nD τ))) :
    (((c : Thread nD τ).loc main_arg0) ↦{fullShare} X : sProp 𝕄)
      = iprop(pt c (bx 0 inb_S16384x512_S4096x512_0_0) X ∗ pt c (bx 4096 inb_S16384x512_S4096x512_4096_0) X
        ∗ pt c (bx 8192 inb_S16384x512_S4096x512_8192_0) X ∗ pt c (bx 12288 inb_S16384x512_S4096x512_12288_0) X) := by
  rw [pt_bx, pt_bx, pt_bx, pt_bx]
  exact (Ring.pointsTo_blocks (ℓ := (c : Thread nD τ).loc main_arg0) _ rows_disjoint rows_cover X).trans
    (bigSep_univ_eq_bigSepL [(0 : Fin 4), 1, 2, 3] (by decide) (by decide) _)
/-- The result likewise. -/
theorem o_blocks (c : Dev nD) (X : Buf (Elt F) (oM.view.loc (c : Thread nD τ))) :
    (((c : Thread nD τ).loc main_v0) ↦{fullShare} X : sProp 𝕄)
      = iprop(pt c (bo 0 inb_S16384x512_S4096x512_0_0) X ∗ pt c (bo 4096 inb_S16384x512_S4096x512_4096_0) X
        ∗ pt c (bo 8192 inb_S16384x512_S4096x512_8192_0) X ∗ pt c (bo 12288 inb_S16384x512_S4096x512_12288_0) X) := by
  rw [pt_bo, pt_bo, pt_bo, pt_bo]
  exact (Ring.pointsTo_blocks (ℓ := (c : Thread nD τ).loc main_v0) _ rows_disjoint rows_cover X).trans
    (bigSep_univ_eq_bigSepL [(0 : Fin 4), 1, 2, 3] (by decide) (by decide) _)

/-- A block of the result that reads what the kernel computes of the operand's block is the block of `outArr`. -/
theorem bo_named (c : Dev nD) (b : Fin 4) (X : FVec F S16384x512 .f32) (w : FVec F S512x512 .bf16) (cc : FVec F S1x512 .f32) :
    reads c (bo (4096 * b.val) (rowInb b)) (blockOut ((bx (4096 * b.val) (rowInb b)).view.read (Elt F) X) w cc)
      ⊢ (pt c (bo (4096 * b.val) (rowInb b)) (outArr X w cc) : sProp 𝕄) := by
  iintro ⟨%g, %hg, H⟩
  have e : ∀ i ∈ (bo (4096 * b.val) (rowInb b)).view.set, g i = outArr X w cc i := by
    intro i hi
    obtain ⟨x, -, rfl⟩ := Finset.mem_map.mp hi
    refine View.eq_of_read_eq ?_
    rw [hg, read_bx, read_bo, rowsOf_outArr]
  iapply (of_eq (pointsTo_congr (q := fullShare) e)); iexact H

/-- The four blocks join to the result's array. -/
theorem o_join (c : Dev nD) (X : FVec F S16384x512 .f32) (w : FVec F S512x512 .bf16) (cc : FVec F S1x512 .f32) :
    iprop(reads c (bo 0 inb_S16384x512_S4096x512_0_0) (blockOut ((bx 0 inb_S16384x512_S4096x512_0_0).view.read (Elt F) X) w cc)
      ∗ reads c (bo 4096 inb_S16384x512_S4096x512_4096_0) (blockOut ((bx 4096 inb_S16384x512_S4096x512_4096_0).view.read (Elt F) X) w cc)
      ∗ reads c (bo 8192 inb_S16384x512_S4096x512_8192_0) (blockOut ((bx 8192 inb_S16384x512_S4096x512_8192_0).view.read (Elt F) X) w cc)
      ∗ reads c (bo 12288 inb_S16384x512_S4096x512_12288_0) (blockOut ((bx 12288 inb_S16384x512_S4096x512_12288_0).view.read (Elt F) X) w cc))
      ⊢ (((c : Thread nD τ).loc main_v0) ↦{fullShare} outArr X w cc : sProp 𝕄) := by
  rw [o_blocks]
  exact BI.sep_mono (bo_named c 0 X w cc) (BI.sep_mono (bo_named c 1 X w cc) (BI.sep_mono (bo_named c 2 X w cc) (bo_named c 3 X w cc)))

/-- The input ring held whole at some contents is its three slots so held, and back; the output ring likewise. -/
theorem in_split (c : Dev nD) :
    iprop(∃ f : Buf (Elt F) ((c : Thread nD τ).loc cc0_scratch0), ((c : Thread nD τ).loc cc0_scratch0) ↦{fullShare} f)
      ⊢ (iprop(held (F := F) c (si 0 inb_S3x4096x512_S1x4096x512_0_0_0) ∗ held (F := F) c (si 1 inb_S3x4096x512_S1x4096x512_1_0_0)
        ∗ held (F := F) c (si 2 inb_S3x4096x512_S1x4096x512_2_0_0)) : sProp 𝕄) :=
  Ring.slots3_split (ℓ := (c : Thread nD τ).loc cc0_scratch0) _ slots_disjoint slots_cover _ _ _ (fun f => pt_si c 0 _ f) (fun f => pt_si c 1 _ f) (fun f => pt_si c 2 _ f)
theorem in_join (c : Dev nD) :
    (iprop(held (F := F) c (si 0 inb_S3x4096x512_S1x4096x512_0_0_0) ∗ held (F := F) c (si 1 inb_S3x4096x512_S1x4096x512_1_0_0)
        ∗ held (F := F) c (si 2 inb_S3x4096x512_S1x4096x512_2_0_0)) : sProp 𝕄)
      ⊢ iprop(∃ f : Buf (Elt F) ((c : Thread nD τ).loc cc0_scratch0), ((c : Thread nD τ).loc cc0_scratch0) ↦{fullShare} f) :=
  Ring.slots3_join (ℓ := (c : Thread nD τ).loc cc0_scratch0) _ slots_disjoint slots_cover _ _ _ (fun f => pt_si c 0 _ f) (fun f => pt_si c 1 _ f) (fun f => pt_si c 2 _ f)
theorem out_split (c : Dev nD) :
    iprop(∃ f : Buf (Elt F) ((c : Thread nD τ).loc cc0_scratch1), ((c : Thread nD τ).loc cc0_scratch1) ↦{fullShare} f)
      ⊢ (iprop(held (F := F) c (so 0 inb_S3x4096x512_S1x4096x512_0_0_0) ∗ held (F := F) c (so 1 inb_S3x4096x512_S1x4096x512_1_0_0)
        ∗ held (F := F) c (so 2 inb_S3x4096x512_S1x4096x512_2_0_0)) : sProp 𝕄) :=
  Ring.slots3_split (ℓ := (c : Thread nD τ).loc cc0_scratch1) _ slots_disjoint slots_cover _ _ _ (fun f => pt_so c 0 _ f) (fun f => pt_so c 1 _ f) (fun f => pt_so c 2 _ f)
theorem out_join (c : Dev nD) :
    (iprop(held (F := F) c (so 0 inb_S3x4096x512_S1x4096x512_0_0_0) ∗ held (F := F) c (so 1 inb_S3x4096x512_S1x4096x512_1_0_0)
        ∗ held (F := F) c (so 2 inb_S3x4096x512_S1x4096x512_2_0_0)) : sProp 𝕄)
      ⊢ iprop(∃ f : Buf (Elt F) ((c : Thread nD τ).loc cc0_scratch1), ((c : Thread nD τ).loc cc0_scratch1) ↦{fullShare} f) :=
  Ring.slots3_join (ℓ := (c : Thread nD τ).loc cc0_scratch1) _ slots_disjoint slots_cover _ _ _ (fun f => pt_so c 0 _ f) (fun f => pt_so c 1 _ f) (fun f => pt_so c 2 _ f)

end Cert.Kernel.Hand

end
-- ==== Proof.Launch.lean ====
module

public import proofs.«01_k».proof.Proof.Blocks
public import proofs.«01_k».proof.Proof.Gen.Kernel.Launch
public import proofs.«01_k».proof.Proof.Gen.Kernel.Frame
public import proofs.«01_k».proof.Proof.Gen.Kernel.Skeleton
public import proofs.«01_k».proof.Proof.Gen.Kernel.Points
public import Idealize.ShloMosaic.Lib.Pipeline.FrameBody
public import Idealize.ShloMosaic.Lib.Pipeline.FrameValue
public import Idealize.ShloMosaic.Lib.Ring
public import Idealize.ShloMosaic.Lib.VecWindow
public import Idealize.ShloMosaic.Lib.Tactic

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! The launch: from the body's run to the whole program's run. Every execution ends with the arguments unchanged, every semaphore at zero
and the result at `outArr` of the arrays as the region finds them. -/

local notation "𝕄" => MT nD τ sig Unit (Elt F) ℕ (Pipeline.UD sig nD τ) ℕ

variable (m : (ℓ : Loc nD τ sig) → Buf (Elt F) ℓ) (ρ : Dev nD → PrngReg)

/-- @main up to the region: two reshapes, then the kernel. -/
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The kernel's six semaphores: three for the copies in, three for the copies out. -/
abbrev osem0 : Fin 6 → SemLoc sig := fun j => (![SemLoc.dma 4, SemLoc.dma 5, SemLoc.dma 6, SemLoc.dma 7, SemLoc.dma 8, SemLoc.dma 9] : Fin 6 → SemLoc sig) j
theorem ownSemFacts0 : Pipeline.OwnSemFacts spec0 osem0 := by decide
theorem ownSems0_list (c : Dev nD) :
    (Pipeline.ownSems0 (Ix := Unit) (Name := ℕ) (U := Pipeline.UD sig nD τ) (Lvl := ℕ) (Val := Elt F) (τ := τ) osem0 c : sProp 𝕄)
      = iprop(sv c 4 ∗ sv c 5 ∗ sv c 6 ∗ sv c 7 ∗ sv c 8 ∗ sv c 9) := by
  rw [Pipeline.ownSems0_eq_of_list c osem0 [0, 1, 2, 3, 4, 5] (by decide) (by decide)]; rfl

/-- The array the kernel's own copies read, and the array they write. -/
def H0 : Finset (Ref sig .tc) := {main_arg0}
def R0 : Finset (Ref sig .tc) := {main_v0}
theorem H0_sub : H0 ⊆ Pipeline.restRefs sig spec0 := by decide
theorem R0_sub : R0 ⊆ Pipeline.restRefs sig spec0 \ H0 := by decide

/-- The product of the weights and the bias row, from the arrays as the region finds them. -/
abbrev wOf (c : Dev nD) : FVec F S512x512 .bf16 := k0_pay1 (V m c main_arg1) (V m c main_arg3)
abbrev cOf (c : Dev nD) : FVec F S1x512 .f32 := k0_pay2 (V m c main_call0_v0) (V m c main_arg3) (V m c main_call0_v1)

/-- Core `c`'s arrays after the kernel: the result's named, the others as they were. -/
def G (c : Dev nD) : (b : Ref sig .tc) → Buf (Elt F) ((c : Thread nD τ).loc b) :=
  Function.update (V m c) main_v0 (outArr (V m c main_arg0) (wOf m c) (cOf m c))
theorem G_result (c : Dev nD) : G m c main_v0 = outArr (V m c main_arg0) (wOf m c) (cOf m c) := Function.update_self _ _ _

/-- What the body's invariant is before and after the kernel's one point, written out. -/
theorem phi_eq (W : (c : Dev nD) → (b : Ref sig .tc) → Buf (Elt F) ((c : Thread nD τ).loc b)) (c : Dev nD) :
    (Pipeline.ΦDRG osem0 spec0 H0 R0 (V m) W c : sProp 𝕄)
      = iprop(iprop((∃ f : Buf (Elt F) ((c : Thread nD τ).loc cc0_scratch0), ((c : Thread nD τ).loc cc0_scratch0) ↦{fullShare} f)
            ∗ (∃ f : Buf (Elt F) ((c : Thread nD τ).loc cc0_scratch1), ((c : Thread nD τ).loc cc0_scratch1) ↦{fullShare} f)
            ∗ (∃ f : Buf (Elt F) ((c : Thread nD τ).loc cc0_scratch2), ((c : Thread nD τ).loc cc0_scratch2) ↦{fullShare} f)
            ∗ (∃ f : Buf (Elt F) ((c : Thread nD τ).loc cc0_scratch3), ((c : Thread nD τ).loc cc0_scratch3) ↦{fullShare} f))
          ∗ (∃ r, prngReg c r)
          ∗ iprop(sv c 4 ∗ sv c 5 ∗ sv c 6 ∗ sv c 7 ∗ sv c 8 ∗ sv c 9)
          ∗ (((c : Thread nD τ).loc main_arg0) ↦{fullShare} V m c main_arg0)
          ∗ (((c : Thread nD τ).loc main_v0) ↦{fullShare} W c main_v0)) := by
  rw [Pipeline.ΦDRG_eq, scopedRest0_eq, ownSems0_list]
  unfold H0 R0 Pipeline.routed
  rw [BI.bigSep_singleton, BI.bigSep_singleton]

/-- A scratch buffer held whole, through its memref. -/
theorem pt_w (c : Dev nD) : (iprop(∃ f : Buf (Elt F) ((c : Thread nD τ).loc cc0_scratch2), ((c : Thread nD τ).loc cc0_scratch2) ↦{fullShare} f) : sProp 𝕄)
    = held (F := F) c wM := by
  unfold held pt; rw [View.set_whole]
theorem pt_c (c : Dev nD) : (iprop(∃ f : Buf (Elt F) ((c : Thread nD τ).loc cc0_scratch3), ((c : Thread nD τ).loc cc0_scratch3) ↦{fullShare} f) : sProp 𝕄)
    = held (F := F) c cM := by
  unfold held pt; rw [View.set_whole]

/-- The proof data of the one pipeline on core `c`: the four staged operands stay as they are; the invariant holds the result at its
    launch contents before the point and at the named ones after it. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
  Φ t := if t.val = 0 then Pipeline.ΦDRG osem0 spec0 H0 R0 (V m) (V m) c else Pipeline.ΦDRG osem0 spec0 H0 R0 (V m) (G m) c
  q _ := fullShare
  owed _ := 0

theorem A_eq (c : Dev nD) (w : Fin cfg0.W) : (dats m 0 c).A w = V m c (Pipeline.arrRef spec0 w) := by
  dsimp only [dats]
theorem after_eq0 (c : Dev nD) (t : Fin cfg0.N) : (dats m 0 c).after 0 t = iblk m c 0 t := by dsimp only [dats]
theorem after_eq1 (c : Dev nD) (t : Fin cfg0.N) : (dats m 0 c).after 1 t = iblk m c 1 t := by dsimp only [dats]
theorem after_eq2 (c : Dev nD) (t : Fin cfg0.N) : (dats m 0 c).after 2 t = iblk m c 2 t := by dsimp only [dats]
theorem after_eq3 (c : Dev nD) (t : Fin cfg0.N) : (dats m 0 c).after 3 t = iblk m c 3 t := by dsimp only [dats]
theorem before_eq0 (c : Dev nD) (t : Fin cfg0.N) (d) : (dats m 0 c).before 0 t d = iblk m c 0 t :=
  ((dats m 0 c).before_in_eq_fetched 0 rfl (fun _ => rfl) (fun _ _ _ => rfl) (fun t => by rw [after_eq0]; unfold Dat.blockOf iblk; rw [A_eq]; try rfl) t d).trans
    (by unfold Dat.fetched Dat.blockOf iblk; rw [A_eq]; try rfl)
theorem before_eq1 (c : Dev nD) (t : Fin cfg0.N) (d) : (dats m 0 c).before 1 t d = iblk m c 1 t :=
  ((dats m 0 c).before_in_eq_fetched 1 rfl (fun _ => rfl) (fun _ _ _ => rfl) (fun t => by rw [after_eq1]; unfold Dat.blockOf iblk; rw [A_eq]; try rfl) t d).trans
    (by unfold Dat.fetched Dat.blockOf iblk; rw [A_eq]; try rfl)
theorem before_eq2 (c : Dev nD) (t : Fin cfg0.N) (d) : (dats m 0 c).before 2 t d = iblk m c 2 t :=
  ((dats m 0 c).before_in_eq_fetched 2 rfl (fun _ => rfl) (fun _ _ _ => rfl) (fun t => by rw [after_eq2]; unfold Dat.blockOf iblk; rw [A_eq]; try rfl) t d).trans
    (by unfold Dat.fetched Dat.blockOf iblk; rw [A_eq]; try rfl)
theorem before_eq3 (c : Dev nD) (t : Fin cfg0.N) (d) : (dats m 0 c).before 3 t d = iblk m c 3 t :=
  ((dats m 0 c).before_in_eq_fetched 3 rfl (fun _ => rfl) (fun _ _ _ => rfl) (fun t => by rw [after_eq3]; unfold Dat.blockOf iblk; rw [A_eq]; try rfl) t d).trans
    (by unfold Dat.fetched Dat.blockOf iblk; rw [A_eq]; try rfl)

/-- Each staged operand's block is its whole array. -/
theorem iblk0_eq (c : Dev nD) (t : Fin cfg0.N) : iblk m c 0 t = V m c main_arg1 := by
  funext j
  show V m c main_arg1 (((cfg0.win 0).blk t).view.emb j) = V m c main_arg1 j
  congr 1; funext a; apply Fin.ext
  match a with
  | ⟨0, _⟩ => show 0 * 512 + 1 * (j 0).val = (j 0).val; omega
  | ⟨1, _⟩ => show 0 * 128 + 1 * (j 1).val = (j 1).val; omega
theorem iblk1_eq (c : Dev nD) (t : Fin cfg0.N) : iblk m c 1 t = V m c main_call0_v0 := by
  funext j
  show V m c main_call0_v0 (((cfg0.win 1).blk t).view.emb j) = V m c main_call0_v0 j
  congr 1; funext a; apply Fin.ext
  match a with
  | ⟨0, _⟩ => show 0 * 1 + 1 * (j 0).val = (j 0).val; omega
  | ⟨1, _⟩ => show 0 * 128 + 1 * (j 1).val = (j 1).val; omega
theorem iblk2_eq (c : Dev nD) (t : Fin cfg0.N) : iblk m c 2 t = V m c main_arg3 := by
  funext j
  show V m c main_arg3 (((cfg0.win 2).blk t).view.emb j) = V m c main_arg3 j
  congr 1; funext a; apply Fin.ext
  match a with
  | ⟨0, _⟩ => show 0 * 128 + 1 * (j 0).val = (j 0).val; omega
  | ⟨1, _⟩ => show 0 * 512 + 1 * (j 1).val = (j 1).val; omega
theorem iblk3_eq (c : Dev nD) (t : Fin cfg0.N) : iblk m c 3 t = V m c main_call0_v1 := by
  funext j
  show V m c main_call0_v1 (((cfg0.win 3).blk t).view.emb j) = V m c main_call0_v1 j
  congr 1; funext a; apply Fin.ext
  match a with
  | ⟨0, _⟩ => show 0 * 1 + 1 * (j 0).val = (j 0).val; omega
  | ⟨1, _⟩ => show 0 * 512 + 1 * (j 1).val = (j 1).val; omega

/-- The invariant before the point and after it. -/
theorem phi_zero (c : Dev nD) (t : Fin (cfg0.N + 1)) (h : t.val = 0) : (dats m 0 c).Φ t = Pipeline.ΦDRG osem0 spec0 H0 R0 (V m) (V m) c := by
  dsimp only [dats]; rw [if_pos h]
theorem phi_succ (c : Dev nD) (t : Fin (cfg0.N + 1)) (h : t.val ≠ 0) : (dats m 0 c).Φ t = Pipeline.ΦDRG osem0 spec0 H0 R0 (V m) (G m) c := by
  dsimp only [dats]; rw [if_neg h]

def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))
def post (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

set_option backward.isDefEq.respectTransparency.types false in
/-- The body at the one point, from the invariant before to the invariant after. -/
theorem sound_body (c : Dev nD) (t : Fin cfg0.N) :
    pre m c t ⊢ wp frame (wpE (defs₀ (F := F)) Variants.none c none) Set.univ (bodyAt0 t) (fun _ => post m c t) := by
  have ht : t.val = 0 := by have := t.isLt; have hN : cfg0.N = 1 := rfl; omega
  unfold pre post bodyAt0
  simp only [before_eq0, before_eq1, before_eq2, before_eq3, after_eq0, after_eq1, after_eq2, after_eq3, iblk0_eq, iblk1_eq, iblk2_eq, iblk3_eq]
  rw [phi_zero m c t.castSucc ht, phi_succ m c t.succ (Nat.succ_ne_zero t.val)]
  rw [phi_eq, phi_eq, G_result, pt_w, pt_c, x_blocks, o_blocks c (V m c main_v0)]
  unfold Dat.owesAt Pipeline.owesWithin
  rw [show (dats m 0 c).owed t.castSucc = 0 from rfl, show (dats m 0 c).owed t.succ = 0 from rfl]
  unfold owns
  iintro ⟨⟨⟨HI, HB, ⟨%fw, Hw⟩, ⟨%fc, Hc⟩⟩, Hg, ⟨Hq4, Hq5, Hq6, Hq7, Hq8, Hq9⟩, ⟨HX0, HX1, HX2, HX3⟩, ⟨HO0, HO1, HO2, HO3⟩⟩, ⟨%W, -, HW⟩,
    ⟨%d1, %f1, %h1, H1⟩, ⟨%d2, %f2, %h2, H2⟩, ⟨%d3, %f3, %h3, H3⟩, ⟨%d4, %f4, %h4, H4⟩⟩
  ihave HI' := (in_split c) $$ HI
  icases HI' with ⟨⟨%i0, HI0⟩, ⟨%i1, HI1⟩, ⟨%i2, HI2⟩⟩
  ihave HB' := (out_split c) $$ HB
  icases HB' with ⟨⟨%o0, HB0⟩, ⟨%o1, HB1⟩, ⟨%o2, HB2⟩⟩
  iapply (bodyRun c (st0_0 t) (hstage0_0 0) (st0_1 t) (hstage0_1 0) (st0_2 t) (hstage0_2 0) (st0_3 t) (hstage0_3 0)
    (V m c main_arg0) (V m c main_v0) f1 f2 f3 f4 i0 i1 i2 o0 o1 o2 fw fc W _)
  isplitl [H1]; · iexact H1
  isplitl [H2]; · iexact H2
  isplitl [H3]; · iexact H3
  isplitl [H4]; · iexact H4
  isplitl [HX0]; · iexact HX0
  isplitl [HX1]; · iexact HX1
  isplitl [HX2]; · iexact HX2
  isplitl [HX3]; · iexact HX3
  isplitl [HO0]; · iexact HO0
  isplitl [HO1]; · iexact HO1
  isplitl [HO2]; · iexact HO2
  isplitl [HO3]; · iexact HO3
  isplitl [HI0]; · iexact HI0
  isplitl [HI1]; · iexact HI1
  isplitl [HI2]; · iexact HI2
  isplitl [HB0]; · iexact HB0
  isplitl [HB1]; · iexact HB1
  isplitl [HB2]; · iexact HB2
  isplitl [Hw]; · iexact Hw
  isplitl [Hc]; · iexact Hc
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [HW]; · iexact HW
  rw [h1, h2, h3, h4]
  unfold bodyPost
  iintro ⟨H1, H2, H3, H4, HX0, HX1, HX2, HX3, HO0, HO1, HO2, HO3, HI0, HI1, HI2, HB0, HB1, HB2, Hw, Hc, Hq4, Hq5, Hq6, Hq7, Hq8, Hq9, ⟨%W', HW'⟩⟩
  ihave HI := (in_join c) $$ [HI0 HI1 HI2]
  · isplitl [HI0]; · iexact HI0
    isplitl [HI1]; · iexact HI1
    iexact HI2
  ihave HB := (out_join c) $$ [HB0 HB1 HB2]
  · isplitl [HB0]; · iexact HB0
    isplitl [HB1]; · iexact HB1
    iexact HB2
  ihave HO := (o_join c (V m c main_arg0) (wOf m c) (cOf m c)) $$ [HO0 HO1 HO2 HO3]
  · isplitl [HO0]; · iexact HO0
    isplitl [HO1]; · iexact HO1
    isplitl [HO2]; · iexact HO2
    iexact HO3
  isplitl [HI HB Hw Hc Hg Hq4 Hq5 Hq6 Hq7 Hq8 Hq9 HX0 HX1 HX2 HX3 HO]
  · isplitl [HI HB Hw Hc]
    · isplitl [HI]; · iexact HI
      isplitl [HB]; · iexact HB
      isplitl [Hw]; · iexact Hw
      iexact Hc
    isplitl [Hg]; · iexact Hg
    isplitl [Hq4 Hq5 Hq6 Hq7 Hq8 Hq9]
    · isplitl [Hq4]; · iexact Hq4
      isplitl [Hq5]; · iexact Hq5
      isplitl [Hq6]; · iexact Hq6
      isplitl [Hq7]; · iexact Hq7
      isplitl [Hq8]; · iexact Hq8
      iexact Hq9
    isplitl [HX0 HX1 HX2 HX3]
    · isplitl [HX0]; · iexact HX0
      isplitl [HX1]; · iexact HX1
      isplitl [HX2]; · iexact HX2
      iexact HX3
    iexact HO
  isplitl [HW']
  · iexists W'; isplitr; · ipureintro; exact fun _ _ => Or.inl trivial
    iexact HW'
  isplitl [H1]
  · iexists f1; isplitr; · ipureintro; exact h1
    iexact H1
  isplitl [H2]
  · iexists f2; isplitr; · ipureintro; exact h2
    iexact H2
  isplitl [H3]
  · iexists f3; isplitr; · ipureintro; exact h3
    iexact H3
  iexists f4; isplitr; · ipureintro; exact h4
  iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- Every execution of the program ends, with the arrays no copy writes as the region found them, the result named and the semaphores at zero. -/
theorem run_main : θ_run defs (onTc (τ := τ) (main (F := F))) (s₀ m ρ)
    (fun r => Pipeline.FramePostRG cfgs (dats m) 0 R0 (V m) (G m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmainD m Variants.none) (hA := A_eq m) (G := G m)
    (hin := fun c => of_eq (phi_zero m c 0 rfl).symm) (hout := fun c => of_eq (phi_succ m c (Fin.last cfg0.N) (show (1 : ℕ) ≠ 0 by decide)))

/-- The same, read at the arguments and the result. -/
theorem run_result : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_v0) = outArr (V m c main_arg0) (wOf m c) (cOf m c))
      ∧ r.2.sem = fun _ => 0) :=
  (θ_run defs _ _).mono (fun _ h => ⟨fun c => ⟨(((h.1.toR c).2 main_arg0 (Finset.mem_sdiff.mpr ⟨Pipeline.mem_restRefs_of main_arg0 (by decide) (by decide), by decide⟩))).trans (V_main_arg0 m c),
      ((h.1.toR c).1 0).trans (((dats m 0 c).arrAt_in 0 rfl _).trans ((A_eq m c 0).trans (V_main_arg1 m c))),
      (((h.1.toR c).2 main_arg2 (Finset.mem_sdiff.mpr ⟨Pipeline.mem_restRefs_of main_arg2 (by decide) (by decide), by decide⟩))).trans (V_main_arg2 m c),
      ((h.1.toR c).1 2).trans (((dats m 0 c).arrAt_in 2 rfl _).trans ((A_eq m c 2).trans (V_main_arg3 m c))),
      (((h.1.toR c).2 main_arg4 (Finset.mem_sdiff.mpr ⟨Pipeline.mem_restRefs_of main_arg4 (by decide) (by decide), by decide⟩))).trans (V_main_arg4 m c),
      (h.1.written c (b := main_v0) (by decide)).trans (G_result m c)⟩, h.2⟩) (run_main m ρ)

end Cert.Kernel.Hand

end
-- ==== Proof.Ideal.lean ====
module

public import proofs.«01_k».proof.Proof.Launch
public import proofs.«01_k».proof.KernelIdeal
public import proofs.«01_k».proof.Proof.Gen.KernelIdeal
public import Idealize.ShloMosaic.PureOps.Ideal

@[expose] public section

noncomputable section

namespace Cert.KernelIdeal.Hand

open Cert.KernelIdeal Idealize.ShloMosaic Idealize.SL.Sem

/-! The idealized program is the kernel's own text read over the extended reals: its run is the kernel's run, which is proved over
any float values. -/

/-- The two texts' kernel bodies are one table. -/
theorem bodies_eq : Cert.KernelIdeal.defs₀ (F := Ideal) = Cert.Kernel.defs₀ (F := Ideal) := by
  unfold Cert.KernelIdeal.defs₀ Cert.Kernel.defs₀
  refine congrArg Defs.onTc ?_
  funext l a
  match l, a with
  | 0, (t, s) => rfl

/-- And so are all their definitions. -/
theorem defs_eq : Cert.KernelIdeal.defs (F := Ideal) = Cert.Kernel.defs (F := Ideal) :=
  congrArg (fun d => Pipeline.defs (Cert.Kernel.pcfgs (F := Ideal)) d) bodies_eq

/-- The idealized program's run: the arguments unchanged, the result named, the semaphores at zero. -/
theorem run_result (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_v0)
          = Cert.Kernel.Hand.outArr (Cert.Kernel.Gen.V m c Cert.Kernel.main_arg0) (Cert.Kernel.Hand.wOf m c) (Cert.Kernel.Hand.cOf m c))
      ∧ r.2.sem = fun _ => 0) := by
  rw [defs_eq]
  exact Cert.Kernel.Hand.run_result (F := Ideal) m ρ

end Cert.KernelIdeal.Hand

end
-- ==== Proof.Distrib.lean ====
module

public import Idealize.ShloMosaic.PureOps.Ideal
public import Mathlib.Data.EReal.Operations

@[expose] public section

noncomputable section

namespace Cert.Distrib

/-! The algebra, on extended reals: `x (E D) + (b D + d) = (x E + b) D + d` for a row `x` and matrices `E`, `D` without
infinities. The rows `b` and `d` may hold infinities: a finite number moves out of a product with a finite factor whatever
it is added to. -/

/-- A product with a finite factor distributes over a sum one of whose terms is finite. -/
theorem add_mul_finite (a w : ℝ) (b : EReal) : ((a : EReal) + b) * (w : EReal) = (a : EReal) * w + b * w := by
  induction b with
  | coe b => exact_mod_cast congrArg ((↑) : ℝ → EReal) (add_mul a b w)
  | bot =>
    rcases lt_trichotomy w 0 with h | h | h
    · rw [EReal.add_bot, EReal.bot_mul_coe_of_neg h, ← EReal.coe_mul, EReal.coe_add_top]
    · subst h; simp
    · rw [EReal.add_bot, EReal.bot_mul_coe_of_pos h, EReal.add_bot]
  | top =>
    rcases lt_trichotomy w 0 with h | h | h
    · rw [EReal.coe_add_top, EReal.top_mul_coe_of_neg h, EReal.add_bot]
    · subst h; simp
    · rw [EReal.coe_add_top, EReal.top_mul_coe_of_pos h, ← EReal.coe_mul, EReal.coe_add_top]

variable {K J : Type} [Fintype K] [Fintype J]

/-- A finite sum of finite numbers, taken among the reals. -/
theorem coe_sum (f : K → ℝ) : ((∑ k, f k : ℝ) : EReal) = ∑ k, (f k : EReal) :=
  map_sum (⟨⟨Real.toEReal, EReal.coe_zero⟩, EReal.coe_add⟩ : ℝ →+ EReal) f Finset.univ

/-- The equation over finite `x`, `E`, `D`, with `b` and `d` of any value. -/
theorem fused_eq_two_step (x : K → ℝ) (E : K → J → ℝ) (D : J → ℝ) (b : J → EReal) (d : EReal) :
    (∑ k, (x k : EReal) * ∑ j, (E k j : EReal) * (D j : EReal)) + ((∑ j, b j * (D j : EReal)) + d)
      = (∑ j, ((∑ k, (x k : EReal) * (E k j : EReal)) + b j) * (D j : EReal)) + d := by
  have hl : (∑ k, (x k : EReal) * ∑ j, (E k j : EReal) * (D j : EReal)) = ((∑ k, x k * ∑ j, E k j * D j : ℝ) : EReal) := by
    rw [coe_sum]; refine Finset.sum_congr rfl fun k _ => ?_
    rw [EReal.coe_mul, coe_sum]; simp only [EReal.coe_mul]
  have hi : ∀ j, (∑ k, (x k : EReal) * (E k j : EReal)) = ((∑ k, x k * E k j : ℝ) : EReal) := fun j => by
    rw [coe_sum]; simp only [EReal.coe_mul]
  have hr : (∑ k, x k * ∑ j, E k j * D j) = ∑ j, (∑ k, x k * E k j) * D j := by
    simp only [Finset.mul_sum, Finset.sum_mul]
    rw [Finset.sum_comm]
    exact Finset.sum_congr rfl fun j _ => Finset.sum_congr rfl fun k _ => (mul_assoc _ _ _).symm
  simp only [hi, add_mul_finite, Finset.sum_add_distrib]
  rw [hl, hr, coe_sum, add_assoc]
  simp only [EReal.coe_mul]

/-- The same, of extended reals none of which is an infinity. -/
theorem fused_eq_two_step_of_finite (x : K → EReal) (E : K → J → EReal) (D : J → EReal) (b : J → EReal) (d : EReal)
    (hx : ∀ k, x k ≠ ⊤ ∧ x k ≠ ⊥) (hE : ∀ k j, E k j ≠ ⊤ ∧ E k j ≠ ⊥) (hD : ∀ j, D j ≠ ⊤ ∧ D j ≠ ⊥) :
    (∑ k, x k * ∑ j, E k j * D j) + ((∑ j, b j * D j) + d) = (∑ j, ((∑ k, x k * E k j) + b j) * D j) + d := by
  have h := fused_eq_two_step (fun k => (x k).toReal) (fun k j => (E k j).toReal) (fun j => (D j).toReal) b d
  simp only [EReal.coe_toReal (hx _).1 (hx _).2, EReal.coe_toReal (hE _ _).1 (hE _ _).2, EReal.coe_toReal (hD _).1 (hD _).2] at h
  exact h

end Cert.Distrib

end
-- ==== Proof.Value.lean ====
module

public import proofs.«01_k».proof.Proof.Launch
public import Idealize.ShloMosaic.Lib.Pointwise
public import Idealize.ShloMosaic.PureOps.Ideal

@[expose] public section

noncomputable section

namespace Cert.Kernel.Hand

open Cert.Kernel Cert.Kernel.Gen
open Idealize.ShloMosaic Idealize.ShloMosaic.TcCoe Idealize.SL.Sem

/-! What the result array holds, over the extended reals: at row `i` and column `n` the sum over `k` of `x i k` times the entry `k n` of the
product of the two weight matrices, plus the first bias through the second matrix, plus the second bias. -/

/-- The product of the weights, at an entry. -/
theorem pay1_at (A : FVec Ideal S512x128 .f32) (B : FVec Ideal S128x512 .f32) (k n : Fin 512) :
    k0_pay1 (F := Ideal) A B (ix2 k n) = ∑ j : Fin 128, A (ix2 k j) * B (ix2 j n) := by
  pointwise [k0_pay1]

/-- The bias row, at an entry. -/
theorem pay2_at (b : FVec Ideal S1x128 .f32) (B : FVec Ideal S128x512 .f32) (d : FVec Ideal S1x512 .f32) (n : Fin 512) :
    k0_pay2 (F := Ideal) b B d (ix2 0 n) = (∑ j : Fin 128, b (ix2 0 j) * B (ix2 j n)) + d (ix2 0 n) := by
  pointwise [k0_pay2]

/-- One block of the result, at an entry. -/
theorem blockOut_at (xb : FVec Ideal S4096x512 .f32) (w : FVec Ideal S512x512 .bf16) (cc : FVec Ideal S1x512 .f32) (r : Fin 4096) (n : Fin 512) :
    blockOut (F := Ideal) xb w cc (ix2 r n) = (∑ k : Fin 512, xb (ix2 r k) * w (ix2 k n)) + cc (ix2 0 n) := by
  pointwise [blockOut]

/-- The whole result, at an entry. -/
theorem outArr_at (X : FVec Ideal S16384x512 .f32) (w : FVec Ideal S512x512 .bf16) (cc : FVec Ideal S1x512 .f32) (i : Fin 16384) (n : Fin 512) :
    outArr (F := Ideal) X w cc (ix2 i n) = (∑ k : Fin 512, X (ix2 i k) * w (ix2 k n)) + cc (ix2 0 n) := by
  have h := blockOut_at (rowsOf X ⟨i.val / 4096, by have := i.isLt; omega⟩) w cc ⟨i.val % 4096, Nat.mod_lt _ (by decide)⟩ n
  have e : ∀ k : Fin 512, rowsOf X ⟨i.val / 4096, by have := i.isLt; omega⟩ (ix2 ⟨i.val % 4096, Nat.mod_lt _ (by decide)⟩ k) = X (ix2 i k) := fun k => by
    refine congrArg X (funext fun a => ?_)
    match a with
    | ⟨0, _⟩ => exact Fin.ext (Nat.div_add_mod i.val 4096)
    | ⟨1, _⟩ => rfl
  simp only [e] at h
  exact h

variable (m : (ℓ : Loc nD τ sig) → Buf (Elt Ideal) ℓ)

/-- The two biases reach the kernel as rows of one. -/
theorem bias0_at (c : Dev nD) (j : Fin 128) : V m c main_call0_v0 (ix2 0 j) = m ((c : Thread nD τ).loc main_arg2) (ix1 j) := by
  have h : V m c main_call0_v0 = shapeCast S1x128 (m ((c : Thread nD τ).loc main_arg2)) shapeCasts_S128_S1x128 := by
    unfold V; after_results; rfl
  rw [h]; pointwise
theorem bias1_at (c : Dev nD) (n : Fin 512) : V m c main_call0_v1 (ix2 0 n) = m ((c : Thread nD τ).loc main_arg4) (ix1 n) := by
  have h : V m c main_call0_v1 = shapeCast S1x512 (m ((c : Thread nD τ).loc main_arg4)) shapeCasts_S512_S1x512 := by
    unfold V; after_results; rfl
  rw [h]; pointwise

/-- The five arguments as arrays of extended reals. -/
abbrev argX (c : Dev nD) : FVec Ideal S16384x512 .f32 := m ((c : Thread nD τ).loc main_arg0)
abbrev argE (c : Dev nD) : FVec Ideal S512x128 .f32 := m ((c : Thread nD τ).loc main_arg1)
abbrev argB (c : Dev nD) : FVec Ideal S128 .f32 := m ((c : Thread nD τ).loc main_arg2)
abbrev argD (c : Dev nD) : FVec Ideal S128x512 .f32 := m ((c : Thread nD τ).loc main_arg3)
abbrev argC (c : Dev nD) : FVec Ideal S512 .f32 := m ((c : Thread nD τ).loc main_arg4)

/-- The result of the run, at an entry, from the arguments. -/
theorem result_at (c : Dev nD) (i : Fin 16384) (n : Fin 512) :
    outArr (F := Ideal) (V m c main_arg0) (wOf m c) (cOf m c) (ix2 i n)
      = (∑ k : Fin 512, argX m c (ix2 i k) * ∑ j : Fin 128, argE m c (ix2 k j) * argD m c (ix2 j n))
        + ((∑ j : Fin 128, argB m c (ix1 j) * argD m c (ix2 j n)) + argC m c (ix1 n)) := by
  rw [outArr_at]
  unfold wOf cOf
  rw [pay2_at, bias1_at, V_main_arg0, V_main_arg1, V_main_arg3]
  simp only [pay1_at]
  refine congrArg₂ (· + ·) rfl (congrArg₂ (· + ·) (Finset.sum_congr rfl fun j _ => ?_) rfl)
  rw [bias0_at]

end Cert.Kernel.Hand

end
-- ==== Proof.Reference.lean ====
module

public import proofs.«01_k».proof.Proof.Gen.ReferenceIdeal.Run
public import proofs.«01_k».proof.Proof.Gen.ReferenceIdeal.Read
public import proofs.«01_k».proof.Pre_finite_inputs
public import Idealize.ShloMosaic.Lib.Pointwise
public import Idealize.ShloMosaic.PureOps.Ideal

@[expose] public section

noncomputable section

namespace Cert.ReferenceIdeal.Hand

open Cert.ReferenceIdeal Cert.ReferenceIdeal.Gen Cert.ReferenceIdeal.Read
open Idealize.ShloMosaic Idealize.ShloMosaic.TcCoe Idealize.SL.Sem

/-! What the reference computes, at an entry, and what the precondition says of one. -/

/-- The reference's result: `(x E + b) D + d`. -/
theorem reference_at (x : FVec Ideal S16384x512 .f32) (E : FVec Ideal S512x128 .f32) (b : FVec Ideal S128 .f32)
    (D : FVec Ideal S128x512 .f32) (d : FVec Ideal S512 .f32) (i : Fin 16384) (n : Fin 512) :
    val_main_v7 (F := Ideal) x E b D d (ix2 i n)
      = (∑ j : Fin 128, ((∑ k : Fin 512, x (ix2 i k) * E (ix2 k j)) + b (ix1 j)) * D (ix2 j n)) + d (ix1 n) := by
  pointwise [val_main_v7, val_main_v6, val_main_v5, val_main_v4, val_main_v3, val_main_v2, val_main_v1, val_main_v0]

/-- A number whose absolute value is below infinity is no infinity. -/
theorem finite_of_lt {v : EReal} (h : Ideal.cmp .olt (max v (-v)) (Ideal.ofBits .f32 0x7F800000#32) = 1#1) : v ≠ ⊤ ∧ v ≠ ⊥ := by
  have e : Ideal.ofBits .f32 0x7F800000#32 = ⊤ := by simp [Ideal.ofBits, Ideal.ieee]
  rw [e] at h
  constructor
  · rintro rfl; simp [Ideal.cmp] at h
  · rintro rfl; simp [Ideal.cmp] at h

section Finite
variable [Cert.Pre_finite_inputs.Facts]

variable {x : FVec Ideal S16384x512 .f32} {E : FVec Ideal S512x128 .f32} {b : FVec Ideal S128 .f32} {D : FVec Ideal S128x512 .f32} {d : FVec Ideal S512 .f32}

/-- The precondition, entry by entry: none of the data and the weights is an infinity. -/
theorem finite_x (h : (Cert.Pre_finite_inputs.fn (F := Ideal) x E b D d).1 = fun _ => 1#1) (i) : x i ≠ ⊤ ∧ x i ≠ ⊥ :=
  finite_of_lt (congrFun h i)
theorem finite_E (h : (Cert.Pre_finite_inputs.fn (F := Ideal) x E b D d).2.1 = fun _ => 1#1) (i) : E i ≠ ⊤ ∧ E i ≠ ⊥ :=
  finite_of_lt (congrFun h i)
theorem finite_D (h : (Cert.Pre_finite_inputs.fn (F := Ideal) x E b D d).2.2 = fun _ => 1#1) (i) : D i ≠ ⊤ ∧ D i ≠ ⊥ :=
  finite_of_lt (congrFun h i)
end Finite

end Cert.ReferenceIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Launch
public import proofs.«01_k».proof.Proof.Ideal
public import proofs.«01_k».proof.Proof.Distrib
public import proofs.«01_k».proof.Proof.Value
public import proofs.«01_k».proof.Proof.Reference
public import Idealize.ShloMosaic.Adequacy
public import Idealize.ShloMosaic.Init

@[expose] public section

noncomputable section

namespace Cert.Proof

open Idealize.ShloMosaic Idealize.SL.Sem

/-- The precondition's own side conditions: a scalar is broadcast to each of the three arrays. -/
theorem pre_facts : Cert.Pre_finite_inputs.Facts where
  bcast_S_S16384x512 := by decide
  bcast_S_S512x128 := by decide
  bcast_S_S128x512 := by decide

/-- The kernel as printed runs, leaves its arguments and ends quiescent. -/
theorem frame_kernel : Cert.quiescent_Kernel (hKernel := Cert.Kernel.Gen.facts) := fun m ρ _ =>
  (θ_run _ _ _).mono (fun _ h => ⟨fun c => ⟨(h.1 c).1, (h.1 c).2.1, (h.1 c).2.2.1, (h.1 c).2.2.2.1, (h.1 c).2.2.2.2.1⟩, h.2⟩)
    (Cert.Kernel.Hand.run_result (F := Bits) m ρ)

/-- The idealized kernel, the same. -/
theorem frame_ideal : Cert.quiescent_KernelIdeal (hKernelIdeal := Cert.KernelIdeal.Gen.facts) := fun m ρ _ =>
  (θ_run _ _ _).mono (fun _ h => ⟨fun c => ⟨(h.1 c).1, (h.1 c).2.1, (h.1 c).2.2.1, (h.1 c).2.2.2.1, (h.1 c).2.2.2.2.1⟩, h.2⟩)
    (Cert.KernelIdeal.Hand.run_result m ρ)

/-- The reference, the same: it declares no semaphore. -/
theorem frame_reference : Cert.quiescent_ReferenceIdeal (hReferenceIdeal := Cert.ReferenceIdeal.Gen.facts) := fun m ρ _ =>
  (θ_run _ _ _).mono (fun r h => ⟨fun c => (h c).2, sem_eq_zero_of_no_sems (by decide) r.2⟩)
    (Cert.ReferenceIdeal.Value.run (F := Ideal) m ρ)

/-- Over the extended reals the kernel's result is the reference's, where the data and the weights hold no infinity. -/
theorem value : Cert.algebraic_KernelIdeal_ReferenceIdeal_pre_finite_inputs (hKernelIdeal := Cert.KernelIdeal.Gen.facts)
    (hReferenceIdeal := Cert.ReferenceIdeal.Gen.facts) (hPre_finite_inputs := pre_facts) := by
  haveI := pre_facts
  intro m ρ m' ρ' hpre hargs
  refine ⟨fun c => Cert.Kernel.Hand.outArr (F := Ideal) (Cert.Kernel.Gen.V m c Cert.Kernel.main_arg0) (Cert.Kernel.Hand.wOf m c) (Cert.Kernel.Hand.cOf m c),
    (θ_run _ _ _).mono (fun _ h c => ⟨(h.1 c).2.2.2.2.2, (h.1 c).1, (h.1 c).2.1, (h.1 c).2.2.1, (h.1 c).2.2.2.1, (h.1 c).2.2.2.2.1⟩)
      (Cert.KernelIdeal.Hand.run_result m ρ),
    (θ_run _ _ _).mono (fun r h c => ⟨(h c).1.trans ?_, (h c).2⟩) (Cert.ReferenceIdeal.Value.run (F := Ideal) m' ρ')⟩
  obtain ⟨e0, e1, e2, e3, e4⟩ := hargs c
  obtain ⟨p0, p1, p3⟩ := hpre c
  rw [Cert.ReferenceIdeal.Read.val_main_v7_eq, e0, e1, e2, e3, e4]
  funext y
  obtain ⟨i, n, rfl⟩ : ∃ (i : Fin 16384) (n : Fin 512), y = ix2 i n := ⟨y 0, y 1, eq_ix2 y⟩
  refine (Cert.ReferenceIdeal.Hand.reference_at _ _ _ _ _ i n).trans (Eq.trans ?_ (Cert.Kernel.Hand.result_at m c i n).symm)
  exact (Cert.Distrib.fused_eq_two_step_of_finite _ _ _ _ _ (fun k => Cert.ReferenceIdeal.Hand.finite_x p0 _)
    (fun k j => Cert.ReferenceIdeal.Hand.finite_E p1 _) (fun j => Cert.ReferenceIdeal.Hand.finite_D p3 _)).symm

theorem claim : Cert.Claim :=
  ⟨Cert.Kernel.Gen.facts, Cert.KernelIdeal.Gen.facts, Cert.ReferenceIdeal.Gen.facts, pre_facts,
    frame_kernel, frame_ideal, fun m ρ _ => frame_ideal m ρ trivial, frame_reference, fun m ρ _ => frame_reference m ρ trivial, trivial, value⟩

end Cert.Proof

end
